-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x128 : Shape := ⟨2, ![16384, 128]⟩
abbrev S8192x128 : Shape := ⟨2, ![8192, 128]⟩

abbrev nBuf : Space → Nat
  | .hbm => 2
  | .vmem => 4
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384x128 : Shape := ⟨2, ![16384, 128]⟩

abbrev nBuf : Space → Nat
  | .hbm => 1
  | .vmem => 0
  | .smem => 0
  | _ => 0

abbrev bufTy : (tb : Table) → Fin (tcTables nBuf tb) → BufTy
  | .hbm, ⟨0, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdealCopy.lean ====
/-
  What `KernelIdeal` computes: after the run its result array holds its argument array, whatever a float is (any `F`).
  The grid has two points; point `t` copies rows `8192 t … 8192 t + 8191` through its staging buffers. So what a point
  writes back is its block of the argument (`written_block`), every row lies in one of the two blocks (`every_row`), and
  the result array is the argument array (`result_eq`, `run`).
-/
module

public import proofs.«01_k».proof.Proof.Gen.KernelIdeal.Value

@[expose] public section

noncomputable section

open Idealize.ShloMosaic Idealize.ShloMosaic.TcCoe Idealize.SL.Sem
open Idealize.ShloMosaic.Pipeline (Dat)

namespace Cert.KernelIdeal.Copy

open Cert.KernelIdeal Cert.KernelIdeal.Gen

variable {F : FTy → Type} [FloatOps F]
variable (m : (ℓ : Loc nD τ sig) → Buf (Elt F) ℓ) (ρ : Dev nD → PrngReg)

/-- The argument array of device `c`, as contents of its result array: the two have one shape and one element type. -/
abbrev argAsResult (c : Dev nD) : Buf (Elt F) ((c : Thread nD τ).loc main_v0) := m ((c : Thread nD τ).loc main_arg0)

theorem origin : (![0, 0] : Fin 2 → Nat) = fun _ => 0 := funext fun a => by fin_cases a <;> rfl

/-- The body leaves in the result's staging buffer the block that it loaded: one load and one store, both of the whole
    buffer. -/
theorem body_copies (x : Vec F S8192x128 .f32) : out0_1 x = x := by
  unfold out0_1
  rw [View.canon_unit_zero origin, View.ld_unit_zero origin]

/-- Point `t` writes back block `t` of the argument: the input's block and the result's are cut at the same rows. -/
theorem written_block (c : Dev nD) (t : Fin cfg0.N) :
    (dats m 0 c).flushed 1 t = ((cfg0.win 1).blk t).view.read (Elt F) (argAsResult m c) := by
  rw [Value.flushed1, body_copies]
  rfl

/-- Where block `t` of the result lies: from row `8192 t`, 8192 rows, all 128 columns (checked at both points). -/
theorem block_position : ∀ t : Fin cfg0.N,
    win0_1.index t 0 * win0_1.size 0 = t.val * 8192 ∧ win0_1.xsize (grid0.coords t) 0 = 8192
      ∧ win0_1.index t 1 * win0_1.size 1 = 0 ∧ win0_1.xsize (grid0.coords t) 1 = 128 :=
  (by decide +kernel : ∀ t : Fin grid0.N, _)

/-- An element lies in block `t` of the result when its row does. -/
theorem in_block (t : Fin cfg0.N) (i : S16384x128.Idx) (lo : t.val * 8192 ≤ (i 0 : Nat))
    (hi : (i 0 : Nat) < t.val * 8192 + 8192) : i ∈ ((cfg0.win 1).blk t).view.set := by
  show i ∈ ((View.whole main_v0).slice (win0_1.rect t)).set
  rw [View.set_slice_whole, Rect.mem_set_unit]
  obtain ⟨r, n, z, w⟩ := block_position t
  have col : (i 1 : Nat) < 128 := (i 1).isLt
  intro a
  show win0_1.index t a * win0_1.size a ≤ (i a : Nat)
    ∧ (i a : Nat) < win0_1.index t a * win0_1.size a + win0_1.xsize (grid0.coords t) a
  match a with
  | ⟨0, _⟩ => exact ⟨r.trans_le lo, hi.trans_eq (congrArg₂ (· + ·) r n).symm⟩
  | ⟨1, _⟩ => exact ⟨z.trans_le (Nat.zero_le _), (col.trans_eq (Nat.zero_add _).symm).trans_eq (congrArg₂ (· + ·) z w).symm⟩

/-- The two blocks cover the result: row `r` lies in block `r / 8192`, which its point writes back. -/
theorem every_row (i : S16384x128.Idx) :
    ∃ t : Fin cfg0.N, (cfg0.win 1).flush t = true ∧ i ∈ ((cfg0.win 1).blk t).view.set := by
  have row : (i 0 : Nat) < 16384 := (i 0).isLt
  have points : cfg0.N = 2 := N_0
  exact ⟨⟨(i 0 : Nat) / 8192, by omega⟩, flush0_1 _, in_block _ i (by dsimp only; omega) (by dsimp only; omega)⟩

/-- After the last point the result array holds the argument array. -/
theorem result_eq (c : Dev nD) : (dats m 0 c).arrAt 1 cfg0.N = argAsResult m c :=
  (dats m 0 c).arrAt_eq_of_cover 1 (argAsResult m c) (fun t _ => written_block m c t) every_row

/-- The run: the result array ends at the argument, and the argument is unchanged. -/
theorem run : θ_run defs (onTc (τ := τ) (main (F := F))) ⟨m, fun _ => 0, ρ⟩ fun r => ∀ c : Dev nD,
      r.2.mem ((c : Thread nD τ).loc main_v0) = argAsResult m c
      ∧ r.2.mem ((c : Thread nD τ).loc main_arg0) = m ((c : Thread nD τ).loc main_arg0) :=
  (θ_run defs _ _).mono (fun _ h c => ⟨(h c).1.trans (result_eq m c), (h c).2⟩) (Value.run_blocks m ρ)

end Cert.KernelIdeal.Copy

end
-- ==== Proof.ReferenceIdentity.lean ====
/-
  What `Reference` computes. The concatenation of one shard is that shard, so the program has no operation and its result is
  its argument's own buffer: the run leaves every buffer as it was.
-/
module

public import proofs.«01_k».proof.Proof.Gen.Reference
public import Idealize.ShloMosaic.Lib.StableHlo.RunHlo

@[expose] public section

noncomputable section

open Idealize.ShloMosaic Idealize.ShloMosaic.TcCoe Idealize.SL.Sem

namespace Cert.Reference.Identity

open Cert.Reference Cert.Reference.Gen

variable {F : FTy → Type} [FloatOps F]

/-- The run: the argument array, which is the result too, is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_arg0) = m ((c : Thread nD τ).loc main_arg0) :=
  (θ_run defs _ _).mono (fun _ h c => h c main_arg0)
    (StableHlo.run_hlo (ops := []) defs main (fun _ => StableHlo.IsSeq.nil) (by decide +kernel) (by decide +kernel)
      trivial (fun _ h => nomatch h) m ρ)

end Cert.Reference.Identity

end
-- ==== Proof.ReferenceIdealIdentity.lean ====
/-
  What `ReferenceIdeal` computes. The concatenation of one shard is that shard, so the program has no operation and its result is
  its argument's own buffer: the run leaves every buffer as it was.
-/
module

public import proofs.«01_k».proof.Proof.Gen.ReferenceIdeal
public import Idealize.ShloMosaic.Lib.StableHlo.RunHlo

@[expose] public section

noncomputable section

open Idealize.ShloMosaic Idealize.ShloMosaic.TcCoe Idealize.SL.Sem

namespace Cert.ReferenceIdeal.Identity

open Cert.ReferenceIdeal Cert.ReferenceIdeal.Gen

variable {F : FTy → Type} [FloatOps F]

/-- The run: the argument array, which is the result too, is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_arg0) = m ((c : Thread nD τ).loc main_arg0) :=
  (θ_run defs _ _).mono (fun _ h c => h c main_arg0)
    (StableHlo.run_hlo (ops := []) defs main (fun _ => StableHlo.IsSeq.nil) (by decide +kernel) (by decide +kernel)
      trivial (fun _ h => nomatch h) m ρ)

end Cert.ReferenceIdeal.Identity

end
-- ==== Proof.lean ====
/-
  The proof of `Cert.Claim`: a blocked copy through VMEM computes the concatenation of one shard, which is the shard.
  The frames of the two kernels are generated; those of the references are their runs, which change nothing and have no
  semaphore. For the value claims both programs end with the argument array as their result: as words (`bitexact`) and
  over the extended reals (`algebraic`).
-/
module

public import proofs.«01_k».proof.Defs
public import proofs.«01_k».proof.Proof.KernelCopy
public import proofs.«01_k».proof.Proof.KernelIdealCopy
public import proofs.«01_k».proof.Proof.ReferenceIdentity
public import proofs.«01_k».proof.Proof.ReferenceIdealIdentity
public import Idealize.ShloMosaic.Lib.Quiescent

@[expose] public section

noncomputable section

namespace Cert.Proof

open Idealize.ShloMosaic Idealize.SL.Sem

/-- The kernel terminates, keeps its argument and leaves every semaphore at zero. -/
theorem kernel_frame : Cert.quiescent_Kernel := fun m ρ _ => Cert.Kernel.Gen.frame m ρ

/-- So does the ideal kernel. -/
theorem kernelIdeal_frame : Cert.quiescent_KernelIdeal := fun m ρ _ => Cert.KernelIdeal.Gen.frame m ρ

/-- The reference keeps its argument; it declares no semaphore. -/
theorem reference_frame : Cert.quiescent_Reference := fun m ρ _ =>
  (θ_run Cert.Reference.defs _ _).mono (fun r h => ⟨h, sem_eq_zero_of_no_sems (by decide) r.2⟩)
    (Cert.Reference.Identity.run (F := Bits) m ρ)

/-- So does the ideal reference. -/
theorem referenceIdeal_frame : Cert.quiescent_ReferenceIdeal := fun m ρ _ =>
  (θ_run Cert.ReferenceIdeal.defs _ _).mono (fun r h => ⟨h, sem_eq_zero_of_no_sems (by decide) r.2⟩)
    (Cert.ReferenceIdeal.Identity.run (F := Ideal) m ρ)

/-- Over the extended reals kernel and reference end with the same array: the argument. -/
theorem algebraic : Cert.algebraic_KernelIdeal_ReferenceIdeal := by
  intro m ρ m' ρ' _ same
  refine ⟨fun c => Cert.KernelIdeal.Copy.argAsResult m c, Cert.KernelIdeal.Copy.run (F := Ideal) m ρ, ?_⟩
  exact (θ_run Cert.ReferenceIdeal.defs _ _).mono (fun _ h c => ⟨(h c).trans (same c), h c⟩)
    (Cert.ReferenceIdeal.Identity.run (F := Ideal) m' ρ')

/-- As words too: the copy loses no bit, NaN payloads included. -/
theorem bitexact : Cert.bitexact_Kernel_Reference := by
  intro m ρ m' ρ' _ same
  refine ⟨fun c => Cert.Kernel.Copy.argAsResult m c, Cert.Kernel.Copy.run (F := Bits) m ρ, ?_⟩
  exact (θ_run Cert.Reference.defs _ _).mono (fun _ h c => ⟨(h c).trans (same c), h c⟩)
    (Cert.Reference.Identity.run (F := Bits) m' ρ')

/-- All the claims, with the generated witnesses of the programs' side conditions. -/
theorem claim : Cert.Claim :=
  ⟨Cert.Kernel.Gen.facts, Cert.KernelIdeal.Gen.facts, Cert.ReferenceIdeal.Gen.facts, Cert.Reference.Gen.facts,
    kernel_frame, kernelIdeal_frame, referenceIdeal_frame, reference_frame, trivial, algebraic, bitexact⟩

end Cert.Proof

end
